-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x64 : Shape := ⟨2, ![16384, 64]⟩
abbrev S500000x64 : Shape := ⟨2, ![500000, 64]⟩
abbrev S16384 : Shape := ⟨1, ![16384]⟩
abbrev S64 : Shape := ⟨1, ![64]⟩
abbrev S_ : Shape := ⟨0, ![]⟩
abbrev S16384x1 : Shape := ⟨2, ![16384, 1]⟩
abbrev S20000x64 : Shape := ⟨2, ![20000, 64]⟩
abbrev S20000 : Shape := ⟨1, ![20000]⟩
abbrev S20000x1 : Shape := ⟨2, ![20000, 1]⟩
abbrev S1x64 : Shape := ⟨2, ![1, 64]⟩

abbrev nBuf : Space → Nat
  | .hbm => 16
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S500000x64, .f32⟩
  | .hbm, ⟨2, _⟩ => ⟨S16384x64, .f32⟩
  | .hbm, ⟨3, _⟩ => ⟨S16384, .i32⟩
  | .hbm, ⟨4, _⟩ => ⟨S64, .f32⟩
  | .hbm, ⟨5, _⟩ => ⟨S64, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S500000x64, .f32⟩
  | .hbm, ⟨15, _⟩ => ⟨S500000x64, .f32⟩
  | .local _ .vmem, ⟨0, _⟩ => ⟨S20000x64, .f32⟩
  | .local _ .vmem, ⟨1, _⟩ => ⟨S20000x64, .f32⟩
  | .local _ .vmem, ⟨2, _⟩ => ⟨S64, .f32⟩
  | .local _ .vmem, ⟨3, _⟩ => ⟨S64, .f32⟩
  | .local _ .vmem, ⟨4, _⟩ => ⟨S20000x64, .f32⟩
  | .local _ .vmem, ⟨5, _⟩ => ⟨S20000x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x64 : Shape := ⟨2, ![16384, 64]⟩
abbrev S500000x64 : Shape := ⟨2, ![500000, 64]⟩
abbrev S16384 : Shape := ⟨1, ![16384]⟩
abbrev S64 : Shape := ⟨1, ![64]⟩
abbrev S_ : Shape := ⟨0, ![]⟩
abbrev S16384x1 : Shape := ⟨2, ![16384, 1]⟩
abbrev S500000 : Shape := ⟨1, ![500000]⟩
abbrev S500000x1 : Shape := ⟨2, ![500000, 1]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S500000x64, .f32⟩
  | .hbm, ⟨2, _⟩ => ⟨S16384x64, .f32⟩
  | .hbm, ⟨3, _⟩ => ⟨S16384, .i32⟩
  | .hbm, ⟨4, _⟩ => ⟨S64, .f32⟩
  | .hbm, ⟨5, _⟩ => ⟨S64, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S500000x64, .f32⟩
  | .hbm, ⟨15, _⟩ => ⟨S_, .f32⟩
  | .hbm, ⟨16, _⟩ => ⟨S500000, .f32⟩
  | .hbm, ⟨17, _⟩ => ⟨S500000x1, .f32⟩
  | .hbm, ⟨18, _⟩ => ⟨S_, .f32⟩
  | .hbm, ⟨19, _⟩ => ⟨S500000x1, .f32⟩
  | .hbm, ⟨20, _⟩ => ⟨S500000x1, .f32⟩
  | .hbm, ⟨21, _⟩ => ⟨S500000x64, .f32⟩
  | .hbm, ⟨22, _⟩ => ⟨S500000x64, .f32⟩
  | .hbm, ⟨23, _⟩ => ⟨S500000x64, .f32⟩
  | .hbm, ⟨24, _⟩ => ⟨S_, .f32⟩
  | .hbm, ⟨25, _⟩ => ⟨S500000, .f32⟩
  | .hbm, ⟨26, _⟩ => ⟨S500000x1, .f32⟩
  | .hbm, ⟨27, _⟩ => ⟨S_, .f32⟩
  | .hbm, ⟨28, _⟩ => ⟨S500000x1, .f32⟩
  | .hbm, ⟨29, _⟩ => ⟨S500000x1, .f32⟩
  | .hbm, ⟨30, _⟩ => ⟨S500000x64, .f32⟩
  | .hbm, ⟨31, _⟩ => ⟨S500000x64, .f32⟩
  | .hbm, ⟨32, _⟩ => ⟨S_, .f32⟩
  | .hbm, ⟨33, _⟩ => ⟨S500000x1, .f32⟩
  | .hbm, ⟨34, _⟩ => ⟨S500000x1, .f32⟩
  | .hbm, ⟨35, _⟩ => ⟨S500000x1, .f32⟩
  | .hbm, ⟨36, _⟩ => ⟨S500000x64, .f32⟩
  | .hbm, ⟨37, _⟩ => ⟨S500000x64, .f32⟩
  | .hbm, ⟨38, _⟩ => ⟨S1x64, .f32⟩
  | .hbm, ⟨39, _⟩ => ⟨S500000x64, .f32⟩
  | .hbm, ⟨40, _⟩ => ⟨S500000x64, .f32⟩
  | .hbm, ⟨41, _⟩ => ⟨S1x64, .f32⟩
  | .hbm, ⟨42, _⟩ => ⟨S500000x64, .f32⟩
  | .hbm, ⟨43, _⟩ => ⟨S500000x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Proof.RowNorm.lean ====
/-
  The mathematics of one row's layer norm over the extended reals, at a row of 64 entries: the mean, the mean of the
  squared deviations, and the two ways of scaling a deviation — by the reciprocal root of the variance plus epsilon, as the
  kernel does, or by a division by its root, as the reference does. The two agree on every row, the infinite ones
  included: a square is never negative, so the radicand is a positive real or plus infinity.
-/
module

public import Idealize.ShloMosaic.PureOps.Ideal
public import Idealize.ShloMosaic.PureOps.Ideal.Laws

@[expose] public section

noncomputable section

namespace Cert.RowNorm

open Idealize.ShloMosaic

/-- The row's length, as the word that both programs divide by. -/
abbrev len : EReal := Ideal.ofBits .f32 0x42800000#32

/-- Epsilon, as the word that both programs add to the variance. -/
abbrev eps : EReal := Ideal.ofBits .f32 0x3727C5AC#32

/-- The row's mean. -/
def mean (r : Fin 64 → EReal) : EReal := Ideal.div (∑ k, r k) len

/-- The row's variance: the mean of the squared deviations. -/
def var (r : Fin 64 → EReal) : EReal := Ideal.div (∑ k, (r k - mean r) * (r k - mean r)) len

/-- One entry of the normalised row as the kernel computes it: the deviation TIMES the reciprocal root. -/
def byRsqrt (r : Fin 64 → EReal) (w b : EReal) (k : Fin 64) : EReal :=
  (r k - mean r) * Ideal.rsqrt (var r + eps) * w + b

/-- One entry of the normalised row as the reference computes it: the deviation OVER the root. -/
def bySqrt (r : Fin 64 → EReal) (w b : EReal) (k : Fin 64) : EReal :=
  Ideal.div (r k - mean r) (Ideal.sqrt (var r + eps)) * w + b

/-- The length's word denotes 64. -/
theorem len_eq : len = ((64 : ℝ) : EReal) := by
  simp [len, Ideal.ofBits, Ideal.ieee, -EReal.coe_mul]; norm_num

/-- Epsilon's word denotes a positive real. -/
theorem eps_pos : 0 < eps := by
  simp [eps, Ideal.ofBits, Ideal.ieee, -EReal.coe_mul]

/-- A square is not negative, at the infinities either. -/
theorem sq_nonneg (x : EReal) : 0 ≤ x * x := by
  induction x with
  | bot => simp
  | top => simp
  | coe r => rw [← EReal.coe_mul]; exact_mod_cast mul_self_nonneg r

/-- So the variance is not negative. -/
theorem var_nonneg (r : Fin 64 → EReal) : 0 ≤ var r := by
  unfold var
  rw [len_eq, Ideal.div_coe (by norm_num : (64 : ℝ) ≠ 0)]
  exact EReal.mul_nonneg (Finset.sum_nonneg fun k _ => sq_nonneg _) (by exact_mod_cast (by norm_num : (0 : ℝ) ≤ 1 / 64))

/-- Division by the root of a positive extended real is multiplication by its reciprocal root. -/
theorem div_sqrt (x : EReal) {v : EReal} (hv : 0 < v) : Ideal.div x (Ideal.sqrt v) = x * Ideal.rsqrt v := by
  induction v with
  | bot => simp at hv
  | top => simp [Ideal.div]
  | coe s =>
    have hs : 0 < s := by exact_mod_cast hv
    rw [Ideal.sqrt_coe, Ideal.rsqrt_coe, if_neg hs.not_gt, if_neg hs.not_gt, if_neg hs.ne',
      Ideal.div_coe (Real.sqrt_pos.mpr hs).ne', one_div]

/-- The two spellings of the layer norm are one function, on every row of extended reals. -/
theorem bySqrt_eq_byRsqrt (r : Fin 64 → EReal) (w b : EReal) (k : Fin 64) : bySqrt r w b k = byRsqrt r w b k := by
  unfold bySqrt byRsqrt
  rw [div_sqrt _ (lt_of_lt_of_le eps_pos (le_add_of_nonneg_left (var_nonneg r)))]

end Cert.RowNorm

end
-- ==== Proof.KernelValue.lean ====
/-
  What the kernel's result array holds, over the extended reals: every row of the array that the host's scatter-add
  leaves, normalised by the reciprocal root of its variance plus epsilon. One grid point normalises one block of
  20000 rows; the 25 blocks tile the array.
-/
module

public import proofs.«01_k».proof.Proof.Gen.KernelIdeal.Value
public import proofs.«01_k».proof.Proof.RowNorm
public import Idealize.ShloMosaic.Lib.Pipeline.ValueKit

@[expose] public section

set_option maxRecDepth 16384

noncomputable section

namespace Cert.KernelIdeal.RefValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Every row of `x` normalised, weighted by `w` and shifted by `b`, as the kernel spells it. -/
def normRows (x : FVec Ideal S500000x64 .f32) (w b : FVec Ideal S64 .f32) : FVec Ideal S500000x64 .f32 :=
  fun i => RowNorm.byRsqrt (fun k => x (ix2 (i 0) k)) (w (ix1 (i 1))) (b (ix1 (i 1))) (i 1)

/-- The table with the updates added at their rows, as the host operations before the kernel compute it. -/
def scattered (x : FVec Ideal S500000x64 .f32) (idx : IVec S16384 32) (u : FVec Ideal S16384x64 .f32) :
    FVec Ideal S500000x64 .f32 :=
  Host.scatterAdd scatter_S500000x64_S16384x1_S16384x64_1_0_0_1 x
    (broadcastInDim S16384x1 ![0] bcast_S16384_S16384x1_0
      (select (cmpi .slt idx (broadcastInDim S16384 ![] bcast_S_S16384 (constantI S_ 32 0#32)))
        (addi idx (broadcastInDim S16384 ![] bcast_S_S16384 (constantI S_ 32 500000#32))) idx)) u

/-- What the body stores at row `r`, lane `l` of its block: that row of the loaded block, normalised. -/
theorem pay_apply (x : FVec Ideal S20000x64 .f32) (w b : FVec Ideal S64 .f32) (r : Fin 20000) (l : Fin 64) :
    k0_pay1 (F := Ideal) x w b (ix2 r l) = RowNorm.byRsqrt (fun k => x (ix2 r k)) (w (ix1 l)) (b (ix1 l)) l := by
  unfold RowNorm.byRsqrt RowNorm.var RowNorm.mean
  pointwise [k0_pay1]

/-- The region finds the kernel's first operand at the scatter-add of the arguments. -/
theorem V_operand (c : Dev nD) : V m c main_v6
    = scattered (m ((c : Thread nD τ).loc main_arg1)) (m ((c : Thread nD τ).loc main_arg3)) (m ((c : Thread nD τ).loc main_arg0)) := by
  unfold scattered
  after_results_simp <;> rfl

/-- The first operand's block at point `t`, read at row `r`, lane `k`: the array at the row that lane `l` of the result's
    block puts row `r` at, and lane `k`. -/
theorem operand_block (c : Dev nD) (t : Fin cfg0.N) (r : Fin 20000) (l k : Fin 64) :
    iblk m c 0 t (ix2 r k) = V m c main_v6 (ix2 ((((cfg0.win 3).blk t).view.emb (ix2 r l)) 0) k) := by
  have e0 : ∀ t : Fin grid0.N, win0_0.index t 0 = win0_3.index t 0 := fun _ => rfl
  have e1 : ∀ t : Fin grid0.N, win0_0.index t 1 = 0 := fun _ => rfl
  refine congrArg (V m c main_v6) (funext fun a => Fin.ext ?_)
  match a with
  | ⟨0, _⟩ => blk_simp [e0]
  | ⟨1, _⟩ => blk_simp [e1]

/-- The weight's block at every point is the whole weight. -/
theorem weight_block (c : Dev nD) (t : Fin cfg0.N) (l : Fin 64) : iblk m c 1 t (ix1 l) = V m c main_arg4 (ix1 l) := by
  have e1 : ∀ t : Fin grid0.N, win0_1.index t 0 = 0 := fun _ => rfl
  refine congrArg (V m c main_arg4) (funext fun a => Fin.ext ?_)
  match a with
  | ⟨0, _⟩ => blk_simp [e1]

/-- The bias's block at every point is the whole bias. -/
theorem bias_block (c : Dev nD) (t : Fin cfg0.N) (l : Fin 64) : iblk m c 2 t (ix1 l) = V m c main_arg5 (ix1 l) := by
  have e2 : ∀ t : Fin grid0.N, win0_2.index t 0 = 0 := fun _ => rfl
  refine congrArg (V m c main_arg5) (funext fun a => Fin.ext ?_)
  match a with
  | ⟨0, _⟩ => blk_simp [e2]

/-- A lane of the result's block is the same lane of the array. -/
theorem result_lane (t : Fin cfg0.N) (r : Fin 20000) (l : Fin 64) :
    (((cfg0.win 3).blk t).view.emb (ix2 r l)) 1 = l := by
  have e3 : ∀ t : Fin grid0.N, win0_3.index t 1 = 0 := fun _ => rfl
  refine Fin.ext ?_
  blk_simp [e3]

/-- The result array after the run: every row of the region's first operand normalised, each grid point having written
    its block of 20000 rows. -/
theorem final (c : Dev nD) : (dats m 0 c).arrAt 3 cfg0.N
    = normRows (V m c main_v6) (V m c main_arg4) (V m c main_arg5) := by
  refine (dats m 0 c).arrAt_eq_of_covers 3 _ (by decide +kernel) fun t hf y => ?_
  obtain ⟨r, l, rfl⟩ : ∃ (r : Fin 20000) (l : Fin 64), y = ix2 r l := ⟨y 0, y 1, eq_ix2 y⟩
  blk_simp
  rw [after0_3]
  frame_out
  refine (pay_apply _ _ _ r l).trans ?_
  unfold normRows
  rw [result_lane t r l, weight_block, bias_block]
  simp only [operand_block m c t r l]

/-- The run, read: the result array at the normalised rows of the scatter-add of the arguments, the arguments unchanged. -/
theorem run : θ_run defs (onTc (τ := τ) (main (F := Ideal))) ⟨m, fun _ => 0, ρ⟩ fun r => ∀ c : Dev nD,
      r.2.mem ((c : Thread nD τ).loc main_v7)
        = normRows (scattered (m ((c : Thread nD τ).loc main_arg1)) (m ((c : Thread nD τ).loc main_arg3)) (m ((c : Thread nD τ).loc main_arg0)))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (by rw [final, V_operand, V_main_arg4, V_main_arg5]), (h c).2⟩)
    (Value.run_blocks m ρ)

end Cert.KernelIdeal.RefValue

end
-- ==== Proof.ReferenceValue.lean ====
/-
  What the reference computes, over the extended reals: the generated run's term is, index by index, the scatter-add's
  rows normalised by a division by the root of the variance plus epsilon; and so it is the kernel's function.
-/
module

public import proofs.«01_k».proof.Proof.Gen.ReferenceIdeal.Run
public import proofs.«01_k».proof.Proof.KernelValue

@[expose] public section

set_option maxRecDepth 16384

noncomputable section

namespace Cert.ReferenceIdeal.RefValue

open Cert.ReferenceIdeal Cert.ReferenceIdeal.Gen Idealize.ShloMosaic Idealize.ShloMosaic.TcCoe Idealize.SL.Sem

variable (m : (ℓ : Loc nD τ sig) → Buf (Elt Ideal) ℓ)

/-- The reference's scatter-add of its arguments: the same function as the one before the kernel. -/
abbrev table (c : Dev nD) : FVec Ideal S500000x64 .f32 :=
  Cert.KernelIdeal.RefValue.scattered (m ((c : Thread nD τ).loc main_arg1)) (m ((c : Thread nD τ).loc main_arg3)) (m ((c : Thread nD τ).loc main_arg0))

/-- The layer norm of the reference, of any table: the reference's operations after its scatter-add. -/
def layerNorm (x : FVec Ideal S500000x64 .f32) (w b : FVec Ideal S64 .f32) : FVec Ideal S500000x64 .f32 :=
  let mean := Host.divf (broadcastInDim S500000x1 ![0] bcast_S500000_S500000x1_0 (Host.reduceAdd x (constant S_ .f32 0x00000000#32) reducesTo_S500000x64_S500000_d1 h_S_)) (broadcastInDim S500000x1 ![] bcast_S_S500000x1 (constant S_ .f32 0x42800000#32))
  let dev := subf x (broadcastInDim S500000x64 ![0, 1] bcast_S500000x1_S500000x64_0_1 mean)
  let var := Host.divf (broadcastInDim S500000x1 ![0] bcast_S500000_S500000x1_0 (Host.reduceAdd (mulf dev dev) (constant S_ .f32 0x00000000#32) reducesTo_S500000x64_S500000_d1 h_S_)) (broadcastInDim S500000x1 ![] bcast_S_S500000x1 (constant S_ .f32 0x42800000#32))
  let root := Host.sqrt (addf var (broadcastInDim S500000x1 ![] bcast_S_S500000x1 (constant S_ .f32 0x3727C5AC#32)))
  addf (mulf (Host.divf dev (broadcastInDim S500000x64 ![0, 1] bcast_S500000x1_S500000x64_0_1 root))
      (broadcastInDim S500000x64 ![0, 1] bcast_S1x64_S500000x64_0_1 (broadcastInDim S1x64 ![1] bcast_S64_S1x64_1 w)))
    (broadcastInDim S500000x64 ![0, 1] bcast_S1x64_S500000x64_0_1 (broadcastInDim S1x64 ![1] bcast_S64_S1x64_1 b))

/-- The generated run's term is that layer norm of the scatter-add. -/
theorem res_eq (c : Dev nD) :
    Value.res_out0 m c = layerNorm (table m c) (m ((c : Thread nD τ).loc main_arg4)) (m ((c : Thread nD τ).loc main_arg5)) := rfl

/-- The reference's layer norm at an index: its row's entry, normalised by a division. -/
theorem layerNorm_apply (x : FVec Ideal S500000x64 .f32) (w b : FVec Ideal S64 .f32) (r : Fin 500000) (l : Fin 64) :
    layerNorm x w b (ix2 r l) = RowNorm.bySqrt (fun k => x (ix2 r k)) (w (ix1 l)) (b (ix1 l)) l := by
  unfold RowNorm.bySqrt RowNorm.var RowNorm.mean
  pointwise [layerNorm]

/-- The reference's result is the kernel's function of the arguments: over the extended reals the two layer norms are
    one (`RowNorm.bySqrt_eq_byRsqrt`), with no condition on the arguments. -/
theorem result_eq (c : Dev nD) : Value.res_out0 m c
    = Cert.KernelIdeal.RefValue.normRows (table m c) (m ((c : Thread nD τ).loc main_arg4)) (m ((c : Thread nD τ).loc main_arg5)) := by
  rw [res_eq]
  funext i
  obtain ⟨r, l, rfl⟩ : ∃ (r : Fin 500000) (l : Fin 64), i = ix2 r l := ⟨i 0, i 1, eq_ix2 i⟩
  exact (layerNorm_apply _ _ _ r l).trans (RowNorm.bySqrt_eq_byRsqrt _ _ _ _)

end Cert.ReferenceIdeal.RefValue

end
-- ==== Proof.lean ====
/-
  The proof of `Cert.Claim`: the three programs run, keep their arguments and end with every counter at zero; the
  idealized kernel is the kernel's own text; and over the extended reals the kernel and the reference compute one function.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ _ => Cert.Kernel.Gen.frame m ρ

/-- The idealized kernel's frame. -/
theorem frame_ideal : Cert.quiescent_KernelIdeal := fun m ρ _ => Cert.KernelIdeal.Gen.frame m ρ

/-- The reference's frame: its run read at the arguments; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From memories that agree on the arguments, the kernel and the reference end with equal results. -/
theorem algebraic : Cert.algebraic_KernelIdeal_ReferenceIdeal := by
  intro m ρ m' ρ' _ hagree
  refine ⟨_, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, _, h3, h4, h5⟩ := hagree c
  refine (Cert.ReferenceIdeal.RefValue.result_eq m' c).trans ?_
  unfold Cert.ReferenceIdeal.RefValue.table
  rw [h0, h1, h3, h4, h5]

/-- Everything that the certificate claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
